-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_name_rows [hPre_codes_name_rows : Cert.Pre_codes_name_rows.Facts] (m : (ℓ : Loc Cert.KernelIdeal.nD Cert.KernelIdeal.τ Cert.KernelIdeal.sig) → Buf (Elt Ideal) ℓ) : Prop :=
  ∀ c : Dev Cert.KernelIdeal.nD,
    (Cert.Pre_codes_name_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_name_rows [hPre_codes_name_rows : Cert.Pre_codes_name_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_name_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_codes_name_rows [hKernelIdeal : Cert.KernelIdeal.Facts] [hPre_codes_name_rows : Cert.Pre_codes_name_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_name_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_codes_name_rows [hReferenceIdeal : Cert.ReferenceIdeal.Facts] [hPre_codes_name_rows : Cert.Pre_codes_name_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_name_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_codes_name_rows [hKernelIdeal : Cert.KernelIdeal.Facts] [hReferenceIdeal : Cert.ReferenceIdeal.Facts] [hPre_codes_name_rows : Cert.Pre_codes_name_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_name_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_codes_name_rows : Cert.Pre_codes_name_rows.Facts),
    quiescent_Kernel (hKernel := hKernel)
    ∧ quiescent_KernelIdeal (hKernelIdeal := hKernelIdeal)
    ∧ quiescent_KernelIdeal_pre_codes_name_rows (hKernelIdeal := hKernelIdeal) (hPre_codes_name_rows := hPre_codes_name_rows)
    ∧ quiescent_ReferenceIdeal (hReferenceIdeal := hReferenceIdeal)
    ∧ quiescent_ReferenceIdeal_pre_codes_name_rows (hReferenceIdeal := hReferenceIdeal) (hPre_codes_name_rows := hPre_codes_name_rows)
    ∧ preserves_Kernel_KernelIdeal
    ∧ algebraic_KernelIdeal_ReferenceIdeal_pre_codes_name_rows (hKernelIdeal := hKernelIdeal) (hReferenceIdeal := hReferenceIdeal) (hPre_codes_name_rows := hPre_codes_name_rows)
-- ==== Pre_codes_name_rows.lean ====
abbrev S4096x200x6 : Shape := ⟨3, ![4096, 200, 6]⟩
abbrev S4096x200 : Shape := ⟨2, ![4096, 200]⟩
abbrev S64x6 : Shape := ⟨2, ![64, 6]⟩
abbrev S64 : Shape := ⟨1, ![64]⟩
abbrev S8x32 : Shape := ⟨2, ![8, 32]⟩
abbrev S4x32 : Shape := ⟨2, ![4, 32]⟩
abbrev S_ : Shape := ⟨0, ![]⟩

class Facts : Prop where
  bcast_S_S4096x200 : S_.BroadcastsInDim S4096x200 (![] : Fin 0 → Fin S4096x200.rank)

variable [Facts]

def fn {F : FTy → Type} [FloatOps F] (main_arg0 : FVec F S4096x200x6 .f32) (main_arg1 : IVec S4096x200 32) (main_arg2 : IVec S4096x200 32) (main_arg3 : FVec F S64x6 .f32) (main_arg4 : FVec F S64 .f32) (main_arg5 : FVec F S8x32 .f32) (main_arg6 : FVec F S4x32 .f32) : IVec S4096x200 1 :=
  let main_c : IVec S_ 32 := constantI S_ 32 0#32
  let main_v0 : IVec S4096x200 32 := broadcastInDim S4096x200 ![] bcast_S_S4096x200 main_c
  let main_v1 : IVec S4096x200 1 := cmpi .sge main_arg1 main_v0
  let main_c_0 : IVec S_ 32 := constantI S_ 32 8#32
  let main_v2 : IVec S4096x200 32 := broadcastInDim S4096x200 ![] bcast_S_S4096x200 main_c_0
  let main_v3 : IVec S4096x200 1 := cmpi .slt main_arg1 main_v2
  let main_v4 : IVec S4096x200 1 := andi main_v1 main_v3
  let main_c_1 : IVec S_ 32 := constantI S_ 32 0#32
  let main_v5 : IVec S4096x200 32 := broadcastInDim S4096x200 ![] bcast_S_S4096x200 main_c_1
  let main_v6 : IVec S4096x200 1 := cmpi .sge main_arg2 main_v5
  let main_v7 : IVec S4096x200 1 := andi main_v4 main_v6
  let main_c_2 : IVec S_ 32 := constantI S_ 32 4#32
  let main_v8 : IVec S4096x200 32 := broadcastInDim S4096x200 ![] bcast_S_S4096x200 main_c_2
  let main_v9 : IVec S4096x200 1 := cmpi .slt main_arg2 main_v8
  let main_v10 : IVec S4096x200 1 := andi main_v7 main_v9
  main_v10
-- ==== Kernel.lean ====
abbrev S4096x200x6 : Shape := ⟨3, ![4096, 200, 6]⟩
abbrev S4096x200 : Shape := ⟨2, ![4096, 200]⟩
abbrev S64x6 : Shape := ⟨2, ![64, 6]⟩
abbrev S64 : Shape := ⟨1, ![64]⟩
abbrev S8x32 : Shape := ⟨2, ![8, 32]⟩
abbrev S4x32 : Shape := ⟨2, ![4, 32]⟩
abbrev S819200x6 : Shape := ⟨2, ![819200, 6]⟩
abbrev S_ : Shape := ⟨0, ![]⟩
abbrev S1x819200 : Shape := ⟨2, ![1, 819200]⟩
abbrev S6x64 : Shape := ⟨2, ![6, 64]⟩
abbrev S1x64 : Shape := ⟨2, ![1, 64]⟩
abbrev S819200x128 : Shape := ⟨2, ![819200, 128]⟩
abbrev S16384x6 : Shape := ⟨2, ![16384, 6]⟩
abbrev S1x16384 : Shape := ⟨2, ![1, 16384]⟩
abbrev S16384x128 : Shape := ⟨2, ![16384, 128]⟩
abbrev S16384x64 : Shape := ⟨2, ![16384, 64]⟩
abbrev S8x16384 : Shape := ⟨2, ![8, 16384]⟩
abbrev S4x16384 : Shape := ⟨2, ![4, 16384]⟩
abbrev S16384x32 : Shape := ⟨2, ![16384, 32]⟩
abbrev S4096x200x128 : Shape := ⟨3, ![4096, 200, 128]⟩

abbrev nBuf : Space → Nat
  | .hbm => 21
  | .vmem => 10
  | .smem => 0
  | _ => 0

abbrev bufTy : (tb : Table) → Fin (tcTables nBuf tb) → BufTy
  | .hbm, ⟨0, _⟩ => ⟨S4096x200x6, .f32⟩
  | .hbm, ⟨1, _⟩ => ⟨S4096x200, .i32⟩
  | .hbm, ⟨2, _⟩ => ⟨S4096x200, .i32⟩
  | .hbm, ⟨3, _⟩ => ⟨S64x6, .f32⟩
  | .hbm, ⟨4, _⟩ => ⟨S64, .f32⟩
  | .hbm, ⟨5, _⟩ => ⟨S8x32, .f32⟩
  | .hbm, ⟨6, _⟩ => ⟨S4x32, .f32⟩
  | .hbm, ⟨7, _⟩ => ⟨S819200x6, .f32⟩
  | .hbm, ⟨8, _⟩ => ⟨S_, .i32⟩
  | .hbm, ⟨9, _⟩ => ⟨S4096x200, .i32⟩
  | .hbm, ⟨10, _⟩ => ⟨S4096x200, .i32⟩
  | .hbm, ⟨11, _⟩ => ⟨S4096x200, .i32⟩
  | .hbm, ⟨12, _⟩ => ⟨S4096x200, .i8⟩
  | .hbm, ⟨13, _⟩ => ⟨S1x819200, .i8⟩
  | .hbm, ⟨14, _⟩ => ⟨S6x64, .f32⟩
  | .hbm, ⟨15, _⟩ => ⟨S6x64, .bf16⟩
  | .hbm, ⟨16, _⟩ => ⟨S1x64, .f32⟩
  | .hbm, ⟨17, _⟩ => ⟨S8x32, .bf16⟩
  | .hbm, ⟨18, _⟩ => ⟨S4x32, .bf16⟩
  | .hbm, ⟨19, _⟩ => ⟨S819200x128, .f32⟩
  | .hbm, ⟨20, _⟩ => ⟨S4096x200x128, .f32⟩
  | .local _ .vmem, ⟨0, _⟩ => ⟨S16384x6, .f32⟩
  | .local _ .vmem, ⟨1, _⟩ => ⟨S16384x6, .f32⟩
  | .local _ .vmem, ⟨2, _⟩ => ⟨S1x16384, .i8⟩
  | .local _ .vmem, ⟨3, _⟩ => ⟨S1x16384, .i8⟩
  | .local _ .vmem, ⟨4, _⟩ => ⟨S6x64, .bf16⟩
  | .local _ .vmem, ⟨5, _⟩ => ⟨S1x64, .f32⟩
  | .local _ .vmem, ⟨6, _⟩ => ⟨S8x32, .bf16⟩
  | .local _ .vmem, ⟨7, _⟩ => ⟨S4x32, .bf16⟩
  | .local _ .vmem, ⟨8, _⟩ => ⟨S16384x128, .f32⟩
  | .local _ .vmem, ⟨9, _⟩ => ⟨S16384x128, .f32⟩
  | _, _ => ⟨S4096x200x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16384 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x200x6 : Shape := ⟨3, ![4096, 200, 6]⟩
abbrev S4096x200 : Shape := ⟨2, ![4096, 200]⟩
abbrev S64x6 : Shape := ⟨2, ![64, 6]⟩
abbrev S64 : Shape := ⟨1, ![64]⟩
abbrev S8x32 : Shape := ⟨2, ![8, 32]⟩
abbrev S4x32 : Shape := ⟨2, ![4, 32]⟩
abbrev S4096x200x64 : Shape := ⟨3, ![4096, 200, 64]⟩
abbrev S1x1x64 : Shape := ⟨3, ![1, 1, 64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x32 : Shape := ⟨3, ![4096, 200, 32]⟩
abbrev S4096x200x128 : Shape := ⟨3, ![4096, 200, 128]⟩

abbrev nBuf : Space → Nat
  | .hbm => 58
  | .vmem => 0
  | .smem => 0
  | _ => 0

abbrev bufTy : (tb : Table) → Fin (tcTables nBuf tb) → BufTy
  | .hbm, ⟨0, _⟩ => ⟨S4096x200x6, .f32⟩
  | .hbm, ⟨1, _⟩ => ⟨S4096x200, .i32⟩
  | .hbm, ⟨2, _⟩ => ⟨S4096x200, .i32⟩
  | .hbm, ⟨3, _⟩ => ⟨S64x6, .f32⟩
  | .hbm, ⟨4, _⟩ => ⟨S64, .f32⟩
  | .hbm, ⟨5, _⟩ => ⟨S8x32, .f32⟩
  | .hbm, ⟨6, _⟩ => ⟨S4x32, .f32⟩
  | .hbm, ⟨7, _⟩ => ⟨S4096x200x64, .f32⟩
  | .hbm, ⟨8, _⟩ => ⟨S1x1x64, .f32⟩
  | .hbm, ⟨9, _⟩ => ⟨S4096x200x64, .f32⟩
  | .hbm, ⟨10, _⟩ => ⟨S4096x200x64, .f32⟩
  | .hbm, ⟨11, _⟩ => ⟨S_, .i32⟩
  | .hbm, ⟨12, _⟩ => ⟨S4096x200, .i32⟩
  | .hbm, ⟨13, _⟩ => ⟨S4096x200, .i1⟩
  | .hbm, ⟨14, _⟩ => ⟨S_, .i32⟩
  | .hbm, ⟨15, _⟩ => ⟨S4096x200, .i32⟩
  | .hbm, ⟨16, _⟩ => ⟨S4096x200, .i32⟩
  | .hbm, ⟨17, _⟩ => ⟨S4096x200, .i32⟩
  | .hbm, ⟨18, _⟩ => ⟨S4096x200x1, .i32⟩
  | .hbm, ⟨19, _⟩ => ⟨S1, .i32⟩
  | .hbm, ⟨20, _⟩ => ⟨S_, .i32⟩
  | .hbm, ⟨21, _⟩ => ⟨S4096x200x1, .i32⟩
  | .hbm, ⟨22, _⟩ => ⟨S4096x200x1, .i1⟩
  | .hbm, ⟨23, _⟩ => ⟨S1x1x1, .i32⟩
  | .hbm, ⟨24, _⟩ => ⟨S4096x200x1, .i32⟩
  | .hbm, ⟨25, _⟩ => ⟨S4096x200x1, .i1⟩
  | .hbm, ⟨26, _⟩ => ⟨S4096x200x1, .i1⟩
  | .hbm, ⟨27, _⟩ => ⟨S_, .i1⟩
  | .hbm, ⟨28, _⟩ => ⟨S4096x200, .i1⟩
  | .hbm, ⟨29, _⟩ => ⟨S4096x200x32, .f32⟩
  | .hbm, ⟨30, _⟩ => ⟨S4096x200x32, .i1⟩
  | .hbm, ⟨31, _⟩ => ⟨S_, .f32⟩
  | .hbm, ⟨32, _⟩ => ⟨S4096x200x32, .f32⟩
  | .hbm, ⟨33, _⟩ => ⟨S4096x200x32, .f32⟩
  | .hbm, ⟨34, _⟩ => ⟨S_, .i32⟩
  | .hbm, ⟨35, _⟩ => ⟨S4096x200, .i32⟩
  | .hbm, ⟨36, _⟩ => ⟨S4096x200, .i1⟩
  | .hbm, ⟨37, _⟩ => ⟨S_, .i32⟩
  | .hbm, ⟨38, _⟩ => ⟨S4096x200, .i32⟩
  | .hbm, ⟨39, _⟩ => ⟨S4096x200, .i32⟩
  | .hbm, ⟨40, _⟩ => ⟨S4096x200, .i32⟩
  | .hbm, ⟨41, _⟩ => ⟨S4096x200x1, .i32⟩
  | .hbm, ⟨42, _⟩ => ⟨S1, .i32⟩
  | .hbm, ⟨43, _⟩ => ⟨S_, .i32⟩
  | .hbm, ⟨44, _⟩ => ⟨S4096x200x1, .i32⟩
  | .hbm, ⟨45, _⟩ => ⟨S4096x200x1, .i1⟩
  | .hbm, ⟨46, _⟩ => ⟨S1x1x1, .i32⟩
  | .hbm, ⟨47, _⟩ => ⟨S4096x200x1, .i32⟩
  | .hbm, ⟨48, _⟩ => ⟨S4096x200x1, .i1⟩
  | .hbm, ⟨49, _⟩ => ⟨S4096x200x1, .i1⟩
  | .hbm, ⟨50, _⟩ => ⟨S_, .i1⟩
  | .hbm, ⟨51, _⟩ => ⟨S4096x200, .i1⟩
  | .hbm, ⟨52, _⟩ => ⟨S4096x200x32, .f32⟩
  | .hbm, ⟨53, _⟩ => ⟨S4096x200x32, .i1⟩
  | .hbm, ⟨54, _⟩ => ⟨S_, .f32⟩
  | .hbm, ⟨55, _⟩ => ⟨S4096x200x32, .f32⟩
  | .hbm, ⟨56, _⟩ => ⟨S4096x200x32, .f32⟩
  | .hbm, ⟨57, _⟩ => ⟨S4096x200x128, .f32⟩
  | _, _ => ⟨S4096x200x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_v6 : Ref sig .tc := ⟨.hbm, 57, rfl⟩

abbrev nD : Nat := 1
abbrev τ : Topo := Topo.v7x

variable {F : FTy → Type} [FloatOps F]
-- ==== Proof.Entry.lean ====
/-
  One entry of the embedding, as a formula over plain rows and tables.

  `entry` is what the kernel computes for one token and one output column: columns 0–63 are the linear layer, columns
  64–95 a product of a one-hot vector with the first table, columns 96–127 a product of a one-hot vector with the
  second table. Both one-hot vectors come from one packed byte. `embed` is the same entry with the two products
  replaced by the rows they pick. `entry_pack` shows they agree when the byte packs a row number below 8 and a row
  number below 4.
-/
module

public import Idealize.ShloMosaic.Lib.Pointwise
public import Idealize.ShloMosaic.PureOps.Ideal

@[expose] public section

set_option maxRecDepth 16384

noncomputable section

open Idealize.ShloMosaic

namespace Cert.Embed

/-! ## The packed byte -/

/-- The byte that packs two words: the first word or the second shifted up by three bits, cut to eight bits. -/
abbrev pack (p q : BitVec 32) : BitVec 8 := BitVec.setWidth 8 (IntOp.ori p (IntOp.shli .host q 3#32))

/-- The low three bits of a packed byte, as a word. -/
abbrev low (w : BitVec 8) : BitVec 32 := IntOp.andi (BitVec.signExtend 32 w) 7#32

/-- The bits of a packed byte from the fourth on, as a word. -/
abbrev high (w : BitVec 8) : BitVec 32 := IntOp.shrsi .vector (BitVec.signExtend 32 w) 3#32

/-- The low bits of a packed byte are the first number. -/
theorem low_pack (p : Fin 8) (q : Fin 4) : low (pack (BitVec.ofNat 32 p) (BitVec.ofNat 32 q)) = BitVec.ofNat 32 p := by
  revert p q; decide +kernel

/-- The high bits of a packed byte are the second number. -/
theorem high_pack (p : Fin 8) (q : Fin 4) : high (pack (BitVec.ofNat 32 p) (BitVec.ofNat 32 q)) = BitVec.ofNat 32 q := by
  revert p q; decide +kernel

/-! ## A one-hot product picks a row -/

/-- Entry `k` of the one-hot vector of a word: one where the word is `k`, zero elsewhere. -/
abbrev hot (k : Nat) (v : BitVec 32) : EReal :=
  FloatOps.sitofp (F := Ideal) FTy.f32 (BitVec.setWidth 32 (IntOp.cmpi .eq (BitVec.ofNat 32 k) v))

/-- The one-hot vector of `p` read at `k`. -/
theorem hot_eq {n : Nat} (hn : n ≤ 8) (k p : Fin n) : hot k (BitVec.ofNat 32 p) = if k = p then 1 else 0 := by
  have hk := k.isLt
  have hp := p.isLt
  by_cases h : k = p
  · subst h
    rw [if_pos rfl]
    show (((BitVec.setWidth 32 (IntOp.cmpi .eq (BitVec.ofNat 32 k) (BitVec.ofNat 32 k))).toInt : ℝ) : EReal) = 1
    simp [IntOp.cmpi]
  · have hne : ¬ BitVec.ofNat 32 k = BitVec.ofNat 32 p := fun e => h (Fin.ext (by
      have := congrArg BitVec.toNat e
      simp only [BitVec.toNat_ofNat] at this
      omega))
    rw [if_neg h]
    show (((BitVec.setWidth 32 (IntOp.cmpi .eq (BitVec.ofNat 32 k) (BitVec.ofNat 32 p))).toInt : ℝ) : EReal) = 0
    simp [IntOp.cmpi, beq_eq_false_iff_ne.mpr hne]

/-- The sum of a table's column against the one-hot vector of `p` is the column's entry `p`, whatever the other
    entries are: zero times an extended real is zero. -/
theorem sum_hot {n : Nat} (hn : n ≤ 8) (p : Fin n) (f : Fin n → EReal) :
    ∑ k : Fin n, hot k (BitVec.ofNat 32 p) * f k = f p := by
  simp only [hot_eq hn, ite_mul, one_mul, zero_mul, Finset.sum_ite_eq', Finset.mem_univ, if_true]

/-! ## The entry -/

/-- The kernel's entry at column `c`, of a token with features `x` and packed byte `w`. -/
def entry (x : Fin 6 → EReal) (w : BitVec 8) (W : Fin 6 → Fin 64 → EReal) (b : Fin 64 → EReal)
    (T₁ : Fin 8 → Fin 32 → EReal) (T₂ : Fin 4 → Fin 32 → EReal) (c : Fin 128) : EReal :=
  if h : c.val < 64 then (∑ k, x k * W k ⟨c.val, h⟩) + b ⟨c.val, h⟩
  else if h' : c.val - 64 < 32 then ∑ k : Fin 8, hot k (low w) * T₁ k ⟨c.val - 64, h'⟩
  else ∑ k : Fin 4, hot k (high w) * T₂ k ⟨c.val - 64 - 32, by omega⟩

/-- The kernel's entry depends on its operands element by element. -/
theorem entry_congr {x x' : Fin 6 → EReal} {w w' : BitVec 8} {W W' : Fin 6 → Fin 64 → EReal} {b b' : Fin 64 → EReal}
    {T₁ T₁' : Fin 8 → Fin 32 → EReal} {T₂ T₂' : Fin 4 → Fin 32 → EReal} (hx : ∀ k, x k = x' k) (hw : w = w')
    (hW : ∀ k j, W k j = W' k j) (hb : ∀ j, b j = b' j) (h₁ : ∀ k j, T₁ k j = T₁' k j) (h₂ : ∀ k j, T₂ k j = T₂' k j)
    (c : Fin 128) : entry x w W b T₁ T₂ c = entry x' w' W' b' T₁' T₂' c := by
  obtain rfl := funext hx
  obtain rfl := hw
  obtain rfl := funext fun k => funext (hW k)
  obtain rfl := funext hb
  obtain rfl := funext fun k => funext (h₁ k)
  obtain rfl := funext fun k => funext (h₂ k)
  rfl

/-- The entry at column `c` of a token with features `x`, row `p` of the first table and row `q` of the second. -/
def embed (x : Fin 6 → EReal) (p : Fin 8) (q : Fin 4) (W : Fin 6 → Fin 64 → EReal) (b : Fin 64 → EReal)
    (T₁ : Fin 8 → Fin 32 → EReal) (T₂ : Fin 4 → Fin 32 → EReal) (c : Fin 128) : EReal :=
  if h : c.val < 64 then (∑ k, x k * W k ⟨c.val, h⟩) + b ⟨c.val, h⟩
  else if h' : c.val - 64 < 32 then T₁ p ⟨c.val - 64, h'⟩
  else T₂ q ⟨c.val - 64 - 32, by omega⟩

/-- The kernel's entry at a byte that packs `p` and `q` is the entry with rows `p` and `q`. -/
theorem entry_pack (x : Fin 6 → EReal) (p : Fin 8) (q : Fin 4) (W : Fin 6 → Fin 64 → EReal) (b : Fin 64 → EReal)
    (T₁ : Fin 8 → Fin 32 → EReal) (T₂ : Fin 4 → Fin 32 → EReal) (c : Fin 128) :
    entry x (pack (BitVec.ofNat 32 p) (BitVec.ofNat 32 q)) W b T₁ T₂ c = embed x p q W b T₁ T₂ c := by
  unfold entry embed
  rw [low_pack, high_pack]
  simp only [sum_hot (Nat.le_refl 8), sum_hot (show 4 ≤ 8 by decide)]

end Cert.Embed

end
-- ==== Proof.Block.lean ====
/-
  What one run of the kernel body stores, read at an index: row `r`, column `c` of the stored block is `Embed.entry`
  of row `r` of the feature block and of byte `r` of the code block.
-/
module

public import proofs.«01_k».proof.Proof.Gen.KernelIdeal.Skeleton
public import proofs.«01_k».proof.Proof.Entry
public import Idealize.ShloMosaic.Lib.Pipeline.Value

@[expose] public section

set_option maxRecDepth 16384

noncomputable section

open Idealize.ShloMosaic Idealize.SL.Sem

namespace Cert.KernelIdeal.Block

open Cert.KernelIdeal Cert.KernelIdeal.Gen

/-- The stored block at row `r` and column `c`. -/
theorem pay_apply (x : Vec Ideal S16384x6 .f32) (W : Vec Ideal S6x64 .bf16) (b : Vec Ideal S1x64 .f32)
    (w : Vec Ideal S1x16384 .i8) (T₁ : Vec Ideal S8x32 .bf16) (T₂ : Vec Ideal S4x32 .bf16)
    (r : Fin 16384) (c : Fin 128) :
    k0_pay1 (F := Ideal) x W b w T₁ T₂ (ix2 r c)
      = Embed.entry (fun k => x (ix2 r k)) (w (ix2 0 r)) (fun k c => W (ix2 k c)) (fun c => b (ix2 0 c))
          (fun k c => T₁ (ix2 k c)) (fun k c => T₂ (ix2 k c)) c := by
  unfold k0_pay1 Embed.entry Embed.hot Embed.low Embed.high
  pointwise

end Cert.KernelIdeal.Block

end
-- ==== Proof.Array.lean ====
/-
  What the result array holds after the run: every entry is `Embed.entry` of the token's row and byte, because each of
  the fifty blocks written back is that function's block and the blocks fill the array.
-/
module

public import proofs.«01_k».proof.Proof.Gen.KernelIdeal.Frame
public import proofs.«01_k».proof.Proof.Block
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.KernelIdeal.Arr

open Cert.KernelIdeal Cert.KernelIdeal.Gen

variable (m : (ℓ : Loc nD τ sig) → Buf (Elt Ideal) ℓ)

/-- The result array, entry by entry, over the arrays that the kernel reads. -/
def whole (c : Dev nD) : Buf (Elt Ideal) ((c : Thread nD τ).loc main_v11) := fun i : S819200x128.Idx =>
  Embed.entry (fun k => V m c main_v0 (ix2 (i 0) k)) (V m c main_v5 (ix2 0 (i 0))) (fun k j => V m c main_v7 (ix2 k j))
    (fun j => V m c main_v8 (ix2 0 j)) (fun k j => V m c main_v9 (ix2 k j)) (fun k j => V m c main_v10 (ix2 k j)) (i 1)

/-- Offset zero on both axes. -/
theorem zeros : (![0, 0] : Fin 2 → Nat) = fun _ => 0 := funext fun a => by fin_cases a <;> rfl

/-! ## Where each window's block lies -/

/-- Feature block `t` starts at row `t`, in blocks. -/
theorem at0 : ∀ t : Fin grid0.N, win0_0.index t 0 = t.val ∧ win0_0.index t 1 = 0 := by decide +kernel
/-- Code block `t` starts at column `t`, in blocks. -/
theorem at1 : ∀ t : Fin grid0.N, win0_1.index t 0 = 0 ∧ win0_1.index t 1 = t.val := by decide +kernel
/-- The weight is one block. -/
theorem at2 : ∀ t : Fin grid0.N, win0_2.index t 0 = 0 ∧ win0_2.index t 1 = 0 := by decide +kernel
/-- The bias is one block. -/
theorem at3 : ∀ t : Fin grid0.N, win0_3.index t 0 = 0 ∧ win0_3.index t 1 = 0 := by decide +kernel
/-- The first table is one block. -/
theorem at4 : ∀ t : Fin grid0.N, win0_4.index t 0 = 0 ∧ win0_4.index t 1 = 0 := by decide +kernel
/-- The second table is one block. -/
theorem at5 : ∀ t : Fin grid0.N, win0_5.index t 0 = 0 ∧ win0_5.index t 1 = 0 := by decide +kernel
/-- Result block `t` starts at row `t`, in blocks. -/
theorem at6 : ∀ t : Fin grid0.N, win0_6.index t 0 = t.val ∧ win0_6.index t 1 = 0 := by decide +kernel

/-- The token that row `r` of block `t` is. -/
abbrev token (t : Fin grid0.N) (r : Fin 16384) : Fin 819200 :=
  ⟨t.val * 16384 + r.val, by have h : t.val < 50 := Nat.lt_of_lt_of_eq t.isLt N_0; omega⟩

/-- Row `r` of feature block `t` is the token's row. -/
theorem blk0 (c : Dev nD) (t : Fin grid0.N) (r : Fin 16384) (k : Fin 6) :
    iblk m c 0 t (ix2 r k : S16384x6.Idx) = V m c main_v0 (ix2 (token t r) k : S819200x6.Idx) := by
  refine congrArg (V m c main_v0) (funext fun a => Fin.ext ?_)
  match a with
  | ⟨0, _⟩ => show win0_0.index t 0 * 16384 + 1 * r.val = _; rw [(at0 t).1]; show _ = t.val * 16384 + r.val; omega
  | ⟨1, _⟩ => show win0_0.index t 1 * 6 + 1 * k.val = _; rw [(at0 t).2]; show _ = k.val; omega

/-- Byte `r` of code block `t` is the token's byte. -/
theorem blk1 (c : Dev nD) (t : Fin grid0.N) (r : Fin 16384) :
    iblk m c 1 t (ix2 0 r : S1x16384.Idx) = V m c main_v5 (ix2 0 (token t r) : S1x819200.Idx) := by
  refine congrArg (V m c main_v5) (funext fun a => Fin.ext ?_)
  match a with
  | ⟨0, _⟩ => show win0_1.index t 0 * 1 + 1 * 0 = _; rw [(at1 t).1]; rfl
  | ⟨1, _⟩ => show win0_1.index t 1 * 16384 + 1 * r.val = _; rw [(at1 t).2]; show _ = t.val * 16384 + r.val; omega

/-- The weight block is the staged weight. -/
theorem blk2 (c : Dev nD) (t : Fin grid0.N) (k : Fin 6) (j : Fin 64) :
    iblk m c 2 t (ix2 k j : S6x64.Idx) = V m c main_v7 (ix2 k j : S6x64.Idx) := by
  refine congrArg (V m c main_v7) (funext fun a => Fin.ext ?_)
  match a with
  | ⟨0, _⟩ => show win0_2.index t 0 * 6 + 1 * k.val = _; rw [(at2 t).1]; show _ = k.val; omega
  | ⟨1, _⟩ => show win0_2.index t 1 * 64 + 1 * j.val = _; rw [(at2 t).2]; show _ = j.val; omega

/-- The bias block is the staged bias. -/
theorem blk3 (c : Dev nD) (t : Fin grid0.N) (j : Fin 64) :
    iblk m c 3 t (ix2 0 j : S1x64.Idx) = V m c main_v8 (ix2 0 j : S1x64.Idx) := by
  refine congrArg (V m c main_v8) (funext fun a => Fin.ext ?_)
  match a with
  | ⟨0, _⟩ => show win0_3.index t 0 * 1 + 1 * 0 = _; rw [(at3 t).1]; rfl
  | ⟨1, _⟩ => show win0_3.index t 1 * 64 + 1 * j.val = _; rw [(at3 t).2]; show _ = j.val; omega

/-- The first table's block is the staged table. -/
theorem blk4 (c : Dev nD) (t : Fin grid0.N) (k : Fin 8) (j : Fin 32) :
    iblk m c 4 t (ix2 k j : S8x32.Idx) = V m c main_v9 (ix2 k j : S8x32.Idx) := by
  refine congrArg (V m c main_v9) (funext fun a => Fin.ext ?_)
  match a with
  | ⟨0, _⟩ => show win0_4.index t 0 * 8 + 1 * k.val = _; rw [(at4 t).1]; show _ = k.val; omega
  | ⟨1, _⟩ => show win0_4.index t 1 * 32 + 1 * j.val = _; rw [(at4 t).2]; show _ = j.val; omega

/-- The second table's block is the staged table. -/
theorem blk5 (c : Dev nD) (t : Fin grid0.N) (k : Fin 4) (j : Fin 32) :
    iblk m c 5 t (ix2 k j : S4x32.Idx) = V m c main_v10 (ix2 k j : S4x32.Idx) := by
  refine congrArg (V m c main_v10) (funext fun a => Fin.ext ?_)
  match a with
  | ⟨0, _⟩ => show win0_5.index t 0 * 4 + 1 * k.val = _; rw [(at5 t).1]; show _ = k.val; omega
  | ⟨1, _⟩ => show win0_5.index t 1 * 32 + 1 * j.val = _; rw [(at5 t).2]; show _ = j.val; omega

/-- Reading any array of the result's shape through block `t`. -/
theorem read6 (t : Fin grid0.N) (X : S819200x128.Idx → Elt Ideal .f32) (r : Fin 16384) (j : Fin 128) :
    (win0_6.blk t).view.read (Elt Ideal) X (ix2 r j : S16384x128.Idx) = X (ix2 (token t r) j : S819200x128.Idx) := by
  refine congrArg X (funext fun a => Fin.ext ?_)
  match a with
  | ⟨0, _⟩ => show win0_6.index t 0 * 16384 + 1 * r.val = _; rw [(at6 t).1]; show _ = t.val * 16384 + r.val; omega
  | ⟨1, _⟩ => show win0_6.index t 1 * 128 + 1 * j.val = _; rw [(at6 t).2]; show _ = j.val; omega

/-! ## What is written back, and what the array ends holding -/

/-- Grid point `t` writes back block `t` of `whole`. -/
theorem flushed_eq (c : Dev nD) (t : Fin cfg0.N) :
    (dats m 0 c).flushed 6 t = (win0_6.blk t).view.read (Elt Ideal) (whole m c) := by
  show (cfg0.win 6).cut (grid0.coords t) ((dats m 0 c).after 6 t) = _
  rw [after0_6]
  unfold out0_6
  rw [View.canon_unit_zero zeros, View.ld_unit_zero zeros, View.ld_unit_zero zeros, View.ld_unit_zero zeros,
    View.ld_unit_zero zeros, View.ld_unit_zero zeros, View.ld_unit_zero zeros]
  funext i
  obtain ⟨r, j, rfl⟩ : ∃ (r : Fin 16384) (j : Fin 128), i = (ix2 r j : S16384x128.Idx) :=
    ⟨i 0, i 1, funext fun a => by match a with | ⟨0, _⟩ => rfl | ⟨1, _⟩ => rfl⟩
  refine (Block.pay_apply _ _ _ _ _ _ r j).trans ?_
  rw [read6]
  simp only [blk0, blk1, blk2, blk3, blk4, blk5]
  rfl

/-- A token's row lies in block `t` when the token number does. -/
theorem mem_blk (t : Fin cfg0.N) (i : S819200x128.Idx) :
    i ∈ ((cfg0.win 6).blk t).view.set ↔ t.val * 16384 ≤ (i 0 : Nat) ∧ (i 0 : Nat) < t.val * 16384 + 16384 := by
  show i ∈ ((View.whole main_v11).slice (win0_6.rect t)).set ↔ _
  rw [View.set_slice_whole, Rect.mem_set_unit]
  have h1 : (i 1 : Nat) < 128 := (i 1).isLt
  have e := at6 t
  constructor
  · intro h
    have h0 : win0_6.index t 0 * 16384 ≤ (i 0 : Nat) ∧ (i 0 : Nat) < win0_6.index t 0 * 16384 + 16384 := h 0
    rwa [e.1] at h0
  · intro h a
    match a with
    | ⟨0, _⟩ =>
      show win0_6.index t 0 * 16384 ≤ (i 0 : Nat) ∧ (i 0 : Nat) < win0_6.index t 0 * 16384 + 16384
      rw [e.1]; exact h
    | ⟨1, _⟩ =>
      show win0_6.index t 1 * 128 ≤ (i 1 : Nat) ∧ (i 1 : Nat) < win0_6.index t 1 * 128 + 128
      rw [e.2]; omega

/-- Every entry lies in the block of its token number divided by 16384, and every block is written back. -/
theorem cover (i : S819200x128.Idx) :
    ∃ t : Fin cfg0.N, (cfg0.win 6).flush t = true ∧ i ∈ ((cfg0.win 6).blk t).view.set := by
  have h0 : (i 0 : Nat) < 819200 := (i 0).isLt
  refine ⟨⟨(i 0 : Nat) / 16384, by show _ < grid0.N; rw [N_0]; omega⟩, flush0_6 _, ?_⟩
  rw [mem_blk]
  dsimp only
  omega

/-- After the run the result array is `whole`. -/
theorem final (c : Dev nD) : (dats m 0 c).arrAt 6 cfg0.N = whole m c :=
  (dats m 0 c).arrAt_eq_of_cover 6 (whole m c) (fun t _ => flushed_eq m c t) cover

end Cert.KernelIdeal.Arr

end
-- ==== Proof.Host.lean ====
/-
  What the operations before the launch leave in the arrays that the kernel reads, at an index, as elements of the
  arguments: tokens are flattened, the weight is transposed, and the two codes are packed into one byte.
-/
module

public import proofs.«01_k».proof.Proof.Gen.KernelIdeal.Frame
public import proofs.«01_k».proof.Proof.Entry
public import Idealize.ShloMosaic.Lib.StableHlo.ReadAt

@[expose] public section

set_option maxRecDepth 16384

noncomputable section

open Idealize.ShloMosaic Idealize.ShloMosaic.TcCoe Idealize.SL.Sem

namespace Cert.KernelIdeal.Staged

open Cert.KernelIdeal Cert.KernelIdeal.Gen

variable (m : (ℓ : Loc nD τ sig) → Buf (Elt Ideal) ℓ)

/-- Token `n` is position `n % 200` of sequence `n / 200`. -/
theorem features (c : Dev nD) (n : Fin 819200) (k : Fin 6) :
    V m c main_v0 (ix2 n k) = m ((c : Thread nD τ).loc main_arg0) (ix3 ⟨n.val / 200, by omega⟩ ⟨n.val % 200, by omega⟩ k) := by
  unfold V V0
  after_reads_at

/-- The byte of token `n` packs its two codes. -/
theorem codes (c : Dev nD) (n : Fin 819200) :
    V m c main_v5 (ix2 0 n) = Embed.pack (m ((c : Thread nD τ).loc main_arg1) (ix2 ⟨n.val / 200, by omega⟩ ⟨n.val % 200, by omega⟩))
      (m ((c : Thread nD τ).loc main_arg2) (ix2 ⟨n.val / 200, by omega⟩ ⟨n.val % 200, by omega⟩)) := by
  unfold V V0
  after_reads_at

/-- The staged weight is the weight transposed. -/
theorem weight (c : Dev nD) (k : Fin 6) (j : Fin 64) :
    V m c main_v7 (ix2 k j) = m ((c : Thread nD τ).loc main_arg3) (ix2 j k) := by
  unfold V V0
  after_reads_at

/-- The staged bias is the bias as one row. -/
theorem bias (c : Dev nD) (j : Fin 64) :
    V m c main_v8 (ix2 0 j) = m ((c : Thread nD τ).loc main_arg4) (ix1 j) := by
  unfold V V0
  after_reads_at

/-- The staged first table is the first table. -/
theorem table₁ (c : Dev nD) (k : Fin 8) (j : Fin 32) :
    V m c main_v9 (ix2 k j) = m ((c : Thread nD τ).loc main_arg5) (ix2 k j) := by
  unfold V V0
  after_reads_at

/-- The staged second table is the second table. -/
theorem table₂ (c : Dev nD) (k : Fin 4) (j : Fin 32) :
    V m c main_v10 (ix2 k j) = m ((c : Thread nD τ).loc main_arg6) (ix2 k j) := by
  unfold V V0
  after_reads_at

end Cert.KernelIdeal.Staged

end
-- ==== Proof.KernelRun.lean ====
/-
  The run of the kernel, read at its result: the array of tokens reshaped to sequences, each entry as `Embed.entry` of
  the arguments' elements; with codes in range, as `Embed.embed`.
-/
module

public import proofs.«01_k».proof.Proof.Array
public import proofs.«01_k».proof.Proof.Host

@[expose] public section

set_option maxRecDepth 16384

noncomputable section

open Idealize.ShloMosaic Idealize.ShloMosaic.TcCoe Idealize.SL.Sem

namespace Cert.KernelIdeal.Result

open Cert.KernelIdeal Cert.KernelIdeal.Gen

variable (m : (ℓ : Loc nD τ sig) → Buf (Elt Ideal) ℓ) (ρ : Dev nD → PrngReg)

/-- The kernel's result: the array of tokens reshaped to sequences of tokens. -/
def result (c : Dev nD) : Buf (Elt Ideal) ((c : Thread nD τ).loc main_v12) :=
  shapeCast S4096x200x128 (Arr.whole m c : S819200x128.Idx → EReal) shapeCasts_S819200x128_S4096x200x128

/-- The reshape after the launch leaves `result` in the result buffer. -/
theorem tail_eq (c : Dev nD) :
    Pipeline.afterTail₀ cfgs (dats m) 0 (V0 m) [hostOps1] c main_v12 = result m c := by
  unfold Pipeline.afterTail₀ result
  have h : Pipeline.withArrays spec0 c (V0 m c) (fun w => (dats m 0 c).arrAt w cfg0.N) (Proc.devRef .tc main_v11)
      = Arr.whole m c :=
    (Pipeline.withArrays_arr spec0 (by decide) c (V0 m c) _ 6).trans (Arr.final m c)
  show StableHlo.after hostOps1 _ (Proc.devRef .tc main_v12) = _
  after_results
  rw [← h]
  rfl

/-- An entry of the result, from the arguments' elements. -/
theorem result_apply (c : Dev nD) (b : Fin 4096) (l : Fin 200) (j : Fin 128) :
    result m c (ix3 b l j : S4096x200x128.Idx)
      = Embed.entry (fun k => m ((c : Thread nD τ).loc main_arg0) (ix3 b l k : S4096x200x6.Idx))
          (Embed.pack (m ((c : Thread nD τ).loc main_arg1) (ix2 b l : S4096x200.Idx))
            (m ((c : Thread nD τ).loc main_arg2) (ix2 b l : S4096x200.Idx)))
          (fun k j => m ((c : Thread nD τ).loc main_arg3) (ix2 j k : S64x6.Idx))
          (fun j => m ((c : Thread nD τ).loc main_arg4) (ix1 j : S64.Idx))
          (fun k j => m ((c : Thread nD τ).loc main_arg5) (ix2 k j : S8x32.Idx))
          (fun k j => m ((c : Thread nD τ).loc main_arg6) (ix2 k j : S4x32.Idx)) j := by
  have e : result m c (ix3 b l j : S4096x200x128.Idx)
      = Arr.whole m c (ix2 (⟨b.val * 200 + l.val, by omega⟩ : Fin 819200) j : S819200x128.Idx) := by
    unfold result
    refine shapeCast_apply _ shapeCasts_S819200x128_S4096x200x128 _ _ ?_
    rw [rowMajor_val2 _ 128 rfl, rowMajor_val3 _ 25600 128 rfl rfl]
    show (b.val * 200 + l.val) * 128 + j.val = b.val * 25600 + l.val * 128 + j.val
    omega
  have hn : b.val * 200 + l.val < 819200 := by omega
  have hb : (⟨(b.val * 200 + l.val) / 200, by omega⟩ : Fin 4096) = b := Fin.ext (by show (b.val * 200 + l.val) / 200 = b.val; omega)
  have hl : (⟨(b.val * 200 + l.val) % 200, by omega⟩ : Fin 200) = l := Fin.ext (by show (b.val * 200 + l.val) % 200 = l.val; omega)
  rw [e]
  refine Embed.entry_congr (fun k => (Staged.features m c ⟨b.val * 200 + l.val, hn⟩ k).trans ?_)
    ((Staged.codes m c ⟨b.val * 200 + l.val, hn⟩).trans ?_) (fun k j => Staged.weight m c k j) (fun j => Staged.bias m c j)
    (fun k j => Staged.table₁ m c k j) (fun k j => Staged.table₂ m c k j) j
  · show m ((c : Thread nD τ).loc main_arg0) (ix3 ⟨(b.val * 200 + l.val) / 200, _⟩ ⟨(b.val * 200 + l.val) % 200, _⟩ k) = _
    rw [hb, hl]
  · show Embed.pack (m ((c : Thread nD τ).loc main_arg1) (ix2 ⟨(b.val * 200 + l.val) / 200, _⟩ ⟨(b.val * 200 + l.val) % 200, _⟩))
      (m ((c : Thread nD τ).loc main_arg2) (ix2 ⟨(b.val * 200 + l.val) / 200, _⟩ ⟨(b.val * 200 + l.val) % 200, _⟩)) = _
    rw [hb, hl]

/-- Every run of the kernel ends with `result` in the result buffer and the arguments unchanged. -/
theorem run : θ_run defs (onTc (τ := τ) (main (F := Ideal))) ⟨m, fun _ => 0, ρ⟩ fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  have hv : θ_run defs (onTc (τ := τ) (main (F := Ideal))) ⟨m, fun _ => 0, ρ⟩ fun r => ∀ c : Dev nD,
      r.2.mem ((c.tc : Thread nD τ).loc main_v12) = result m c :=
    (θ_run defs _ _).mono (fun _ h c =>
      ((h c).2 main_v12 (Pipeline.mem_restRefs_of main_v12 (by decide) (by decide))).trans (tail_eq m c)) (run_main m ρ)
  (θ_run defs _ _).mono (fun _ h c => ⟨h.1 c, h.2 c⟩) (θ_run_and hv (unchanged m ρ))

end Cert.KernelIdeal.Result

end
-- ==== Proof.Reference.lean ====
/-
  The reference's result read at an index, under codes that name rows: the linear layer, a row of the first table and
  a row of the second, side by side; the same function of the arguments as `Embed.embed`.
-/
module

public import proofs.«01_k».proof.Proof.Gen.ReferenceIdeal.Read
public import proofs.«01_k».proof.Proof.Entry
public import Idealize.ShloMosaic.Lib.ReduceAll
public import Idealize.ShloMosaic.Lib.ValueIdxCore

@[expose] public section

set_option maxRecDepth 16384

noncomputable section

open Idealize.ShloMosaic Idealize.SL.Sem

namespace Cert.ReferenceIdeal.Entry

open Cert.ReferenceIdeal Cert.ReferenceIdeal.Gen Cert.ReferenceIdeal.Read

/-! ## A gather of whole rows -/

/-- A row number below eight, read back from its word and clamped to the last row, is itself. -/
theorem row8 : ∀ p : Fin 8, min (BitVec.ofNat 32 p.val).toInt.toNat 7 + 0 + 0 = p.val := by decide

/-- A row number below four, read back from its word and clamped to the last row, is itself. -/
theorem row4 : ∀ p : Fin 4, min (BitVec.ofNat 32 p.val).toInt.toNat 3 + 0 + 0 = p.val := by decide

/-- The gather of whole rows of an eight-row table, at an index whose start word is the row number `p`. -/
theorem gather8 (T : S8x32.Idx → EReal) (w : IVec S4096x200x1 32) (b : Fin 4096) (l : Fin 200) (j : Fin 32) (p : Fin 8)
    (hw : w (ix3 b l 0) = BitVec.ofNat 32 p) :
    Host.gather gather_S8x32_S4096x200x1_S4096x200x32_2_0_n_n_0_2_132 T w (ix3 b l j) = T (ix2 p j) := by
  unfold Host.gather
  refine congrArg T (funext fun a => Fin.ext ?_)
  have h01 : a = 0 ∨ a = 1 := by
    match a with
    | ⟨0, _⟩ => exact Or.inl rfl
    | ⟨1, _⟩ => exact Or.inr rfl
  rcases h01 with rfl | rfl
  · have es : gather_S8x32_S4096x200x1_S4096x200x32_2_0_n_n_0_2_132.start (ix3 b l j) w 0
        = min (w (ix3 b l 0)).toInt.toNat 7 := by
      unfold GatherDims.start
      rw [dif_pos (by decide)]
      refine congrArg (fun i => min (w i).toInt.toNat 7) (funext fun q => Fin.ext ?_)
      match q with
      | ⟨0, _⟩ => rfl
      | ⟨1, _⟩ => rfl
      | ⟨2, _⟩ => rfl
    show GatherDims.start _ _ w 0 + GatherDims.batchCoord _ _ 0 + GatherDims.offCoord _ _ 0 = p.val
    rw [es, hw, GatherDims.batchCoord_eq_zero _ _ _ List.not_mem_nil, GatherDims.offCoord_eq_zero _ _ _ (by decide)]
    exact row8 p
  · show GatherDims.start _ _ w 1 + GatherDims.batchCoord _ _ 1 + GatherDims.offCoord _ _ 1 = j.val
    have es : gather_S8x32_S4096x200x1_S4096x200x32_2_0_n_n_0_2_132.start (ix3 b l j) w 1 = 0 := by
      unfold GatherDims.start
      rw [dif_neg (by decide)]
    rw [es, GatherDims.batchCoord_eq_zero _ _ _ List.not_mem_nil]
    show 0 + 0 + GatherDims.offCoord _ _ 1 = j.val
    unfold GatherDims.offCoord
    rw [dif_pos (by decide)]
    show 0 + 0 + j.val = j.val
    omega

/-- The gather of whole rows of a four-row table, at an index whose start word is the row number `p`. -/
theorem gather4 (T : S4x32.Idx → EReal) (w : IVec S4096x200x1 32) (b : Fin 4096) (l : Fin 200) (j : Fin 32) (p : Fin 4)
    (hw : w (ix3 b l 0) = BitVec.ofNat 32 p) :
    Host.gather gather_S4x32_S4096x200x1_S4096x200x32_2_0_n_n_0_2_132 T w (ix3 b l j) = T (ix2 p j) := by
  unfold Host.gather
  refine congrArg T (funext fun a => Fin.ext ?_)
  have h01 : a = 0 ∨ a = 1 := by
    match a with
    | ⟨0, _⟩ => exact Or.inl rfl
    | ⟨1, _⟩ => exact Or.inr rfl
  rcases h01 with rfl | rfl
  · have es : gather_S4x32_S4096x200x1_S4096x200x32_2_0_n_n_0_2_132.start (ix3 b l j) w 0
        = min (w (ix3 b l 0)).toInt.toNat 3 := by
      unfold GatherDims.start
      rw [dif_pos (by decide)]
      refine congrArg (fun i => min (w i).toInt.toNat 3) (funext fun q => Fin.ext ?_)
      match q with
      | ⟨0, _⟩ => rfl
      | ⟨1, _⟩ => rfl
      | ⟨2, _⟩ => rfl
    show GatherDims.start _ _ w 0 + GatherDims.batchCoord _ _ 0 + GatherDims.offCoord _ _ 0 = p.val
    rw [es, hw, GatherDims.batchCoord_eq_zero _ _ _ List.not_mem_nil, GatherDims.offCoord_eq_zero _ _ _ (by decide)]
    exact row4 p
  · show GatherDims.start _ _ w 1 + GatherDims.batchCoord _ _ 1 + GatherDims.offCoord _ _ 1 = j.val
    have es : gather_S4x32_S4096x200x1_S4096x200x32_2_0_n_n_0_2_132.start (ix3 b l j) w 1 = 0 := by
      unfold GatherDims.start
      rw [dif_neg (by decide)]
    rw [es, GatherDims.batchCoord_eq_zero _ _ _ List.not_mem_nil]
    show 0 + 0 + GatherDims.offCoord _ _ 1 = j.val
    unfold GatherDims.offCoord
    rw [dif_pos (by decide)]
    show 0 + 0 + j.val = j.val
    omega

/-! ## Codes in range -/

/-- The wrap of negative codes leaves a code in range alone, as the start word of its gather. -/
theorem start8 (w : S4096x200.Idx → BitVec 32) (i : S4096x200x1.Idx) (p : Fin 8)
    (hw : w (idx_main_call0_v5 i) = BitVec.ofNat 32 p) : val_main_call0_v5 (F := Ideal) w i = BitVec.ofNat 32 p := by
  rw [val_main_call0_v5_apply, val_main_call0_v4_apply, val_main_call0_v1_apply, val_main_call0_v3_apply,
    val_main_call0_v0_apply, val_main_call0_v2_apply, val_main_call0_c_apply, val_main_call0_c_0_apply, hw]
  clear hw
  revert p
  decide

/-- The same of the second code. -/
theorem start4 (w : S4096x200.Idx → BitVec 32) (i : S4096x200x1.Idx) (q : Fin 4)
    (hw : w (idx_main_call1_v5 i) = BitVec.ofNat 32 q) : val_main_call1_v5 (F := Ideal) w i = BitVec.ofNat 32 q := by
  rw [val_main_call1_v5_apply, val_main_call1_v4_apply, val_main_call1_v1_apply, val_main_call1_v3_apply,
    val_main_call1_v0_apply, val_main_call1_v2_apply, val_main_call1_c_apply, val_main_call1_c_0_apply, hw]
  clear hw
  revert q
  decide

/-- Where every code is in range, no entry of the first lookup is masked. -/
theorem mask8 (w : S4096x200.Idx → BitVec 32) (hw : ∀ i, ∃ p : Fin 8, w i = BitVec.ofNat 32 p) (i : S4096x200x32.Idx) :
    val_main_call0_v14 (F := Ideal) w i = 1#1 := by
  rw [val_main_call0_v14_apply]
  unfold val_main_call0_v12
  refine Host.reduce_andi_one _ _ _ _ _ (val_main_call0_c_3_apply _) fun i => ?_
  obtain ⟨p, hp⟩ := hw (idx_main_call0_v5 i)
  rw [val_main_call0_v11_apply, val_main_call0_v7_apply, val_main_call0_v10_apply, start8 w i p hp,
    val_main_call0_v6_apply, val_main_call0_v9_apply, val_main_call0_v8_apply, val_main_call0_c_2_apply,
    val_main_call0_c_1_apply]
  clear hp
  revert p
  decide

/-- Where every code is in range, no entry of the second lookup is masked. -/
theorem mask4 (w : S4096x200.Idx → BitVec 32) (hw : ∀ i, ∃ q : Fin 4, w i = BitVec.ofNat 32 q) (i : S4096x200x32.Idx) :
    val_main_call1_v14 (F := Ideal) w i = 1#1 := by
  rw [val_main_call1_v14_apply]
  unfold val_main_call1_v12
  refine Host.reduce_andi_one _ _ _ _ _ (val_main_call1_c_3_apply _) fun i => ?_
  obtain ⟨q, hq⟩ := hw (idx_main_call1_v5 i)
  rw [val_main_call1_v11_apply, val_main_call1_v7_apply, val_main_call1_v10_apply, start4 w i q hq,
    val_main_call1_v6_apply, val_main_call1_v9_apply, val_main_call1_v8_apply, val_main_call1_c_2_apply,
    val_main_call1_c_1_apply]
  clear hq
  revert q
  decide

/-! ## The three column ranges and the whole result -/

/-- The linear layer at an index. -/
theorem linear_apply (x : S4096x200x6.Idx → EReal) (W : S64x6.Idx → EReal) (b : S64.Idx → EReal)
    (n : Fin 4096) (l : Fin 200) (j : Fin 64) :
    val_main_v3 (F := Ideal) x W b (ix3 n l j) = (∑ k, x (ix3 n l k) * W (ix2 j k)) + b (ix1 j) := by
  rw [val_main_v3_apply, val_main_v0_apply, val_main_v2_apply, val_main_v1_apply]
  show _ + _ = _
  congr 1
  · refine Finset.sum_congr rfl fun k _ => ?_
    congr 1
    · exact congrArg x (funext fun a => by match a with | ⟨0, _⟩ => rfl | ⟨1, _⟩ => rfl | ⟨2, _⟩ => rfl)
    · exact congrArg W (funext fun a => by match a with | ⟨0, _⟩ => rfl | ⟨1, _⟩ => rfl)
  · exact congrArg b (funext fun a => by match a with | ⟨0, _⟩ => rfl)

/-- The first lookup at an index: the row that the code names. -/
theorem lookup8 (w : S4096x200.Idx → BitVec 32) (hw : ∀ i, ∃ p : Fin 8, w i = BitVec.ofNat 32 p) (T : S8x32.Idx → EReal)
    (n : Fin 4096) (l : Fin 200) (j : Fin 32) (p : Fin 8) (hp : w (ix2 n l) = BitVec.ofNat 32 p) :
    val_main_v4 (F := Ideal) w T (ix3 n l j) = T (ix2 p j) := by
  rw [val_main_v4_apply, mask8 w hw]
  show val_main_call0_v13 (F := Ideal) w T (ix3 n l j) = _
  unfold val_main_call0_v13
  refine gather8 T _ n l j p (start8 w _ p (Eq.trans (congrArg w ?_) hp))
  funext a
  match a with
  | ⟨0, _⟩ => rfl
  | ⟨1, _⟩ => rfl

/-- The second lookup at an index: the row that the code names. -/
theorem lookup4 (w : S4096x200.Idx → BitVec 32) (hw : ∀ i, ∃ q : Fin 4, w i = BitVec.ofNat 32 q) (T : S4x32.Idx → EReal)
    (n : Fin 4096) (l : Fin 200) (j : Fin 32) (q : Fin 4) (hq : w (ix2 n l) = BitVec.ofNat 32 q) :
    val_main_v5 (F := Ideal) w T (ix3 n l j) = T (ix2 q j) := by
  rw [val_main_v5_apply, mask4 w hw]
  show val_main_call1_v13 (F := Ideal) w T (ix3 n l j) = _
  unfold val_main_call1_v13
  refine gather4 T _ n l j q (start4 w _ q (Eq.trans (congrArg w ?_) hq))
  funext a
  match a with
  | ⟨0, _⟩ => rfl
  | ⟨1, _⟩ => rfl

/-- The reference's result at an index, where every code names a row. -/
theorem result_apply (x : S4096x200x6.Idx → EReal) (w₁ w₂ : S4096x200.Idx → BitVec 32) (W : S64x6.Idx → EReal)
    (b : S64.Idx → EReal) (T₁ : S8x32.Idx → EReal) (T₂ : S4x32.Idx → EReal)
    (h₁ : ∀ i, ∃ p : Fin 8, w₁ i = BitVec.ofNat 32 p) (h₂ : ∀ i, ∃ q : Fin 4, w₂ i = BitVec.ofNat 32 q)
    (n : Fin 4096) (l : Fin 200) (c : Fin 128) (p : Fin 8) (q : Fin 4)
    (hp : w₁ (ix2 n l) = BitVec.ofNat 32 p) (hq : w₂ (ix2 n l) = BitVec.ofNat 32 q) :
    val_main_v6 (F := Ideal) x w₁ w₂ W b T₁ T₂ (ix3 n l c)
      = Embed.embed (fun k => x (ix3 n l k)) p q (fun k j => W (ix2 j k)) (fun j => b (ix1 j))
          (fun k j => T₁ (ix2 k j)) (fun k j => T₂ (ix2 k j)) c := by
  unfold val_main_v6 Embed.embed
  simp only [← linear_apply x W b n l, ← lookup8 w₁ h₁ T₁ n l _ p hp, ← lookup4 w₂ h₂ T₂ n l _ q hq]
  generalize val_main_v3 (F := Ideal) x W b = y₀
  generalize val_main_v4 (F := Ideal) w₁ T₁ = y₁
  generalize val_main_v5 (F := Ideal) w₂ T₂ = y₂
  pointwise

end Cert.ReferenceIdeal.Entry

end
-- ==== Proof.Codes.lean ====
/-
  The precondition read at an index: where its predicate is all ones, each first code is the word of a row number below
  eight and each second code the word of a row number below four.
-/
module

public import proofs.«01_k».proof.Proof.Gen.Pre_codes_name_rows
public import Idealize.ShloMosaic.PureOps.Ideal

@[expose] public section

noncomputable section

open Idealize.ShloMosaic

namespace Cert.Pre_codes_name_rows.Codes

open Cert.Pre_codes_name_rows Cert.Pre_codes_name_rows.Gen

/-- A conjunction of bits that is one has both bits one. -/
theorem both_one : ∀ a b : BitVec 1, IntOp.andi a b = 1#1 → a = 1#1 ∧ b = 1#1 := by decide

/-- A word that reads signed as at least zero and below a small `n` is the word of a number below `n`. -/
theorem number_of_range (n : Nat) (hn : n < 2 ^ 31) (w : BitVec 32) (h0 : IntOp.cmpi .sge w 0#32 = 1#1)
    (h1 : IntOp.cmpi .slt w (BitVec.ofNat 32 n) = 1#1) : ∃ p : Fin n, w = BitVec.ofNat 32 p := by
  have a0 : 0 ≤ w.toInt := by
    by_contra h
    simp [IntOp.cmpi, BitVec.sle, h] at h0
  have a1 : w.toInt < (BitVec.ofNat 32 n).toInt := by
    by_contra h
    simp [IntOp.cmpi, BitVec.slt, h] at h1
  have e : w.toInt = w.toNat := by
    rw [BitVec.toInt_eq_toNat_cond] at a0 ⊢
    have := w.isLt
    split at a0 <;> split <;> omega
  have en : (BitVec.ofNat 32 n).toInt = n := by
    rw [BitVec.toInt_eq_toNat_cond, BitVec.toNat_ofNat]
    split <;> omega
  rw [e, en] at a1
  exact ⟨⟨w.toNat, by omega⟩, BitVec.eq_of_toNat_eq (by rw [BitVec.toNat_ofNat]; exact (Nat.mod_eq_of_lt w.isLt).symm)⟩

variable (x : FVec Ideal S4096x200x6 .f32) (w₁ w₂ : IVec S4096x200 32) (W : FVec Ideal S64x6 .f32)
  (b : FVec Ideal S64 .f32) (T₁ : FVec Ideal S8x32 .f32) (T₂ : FVec Ideal S4x32 .f32)

/-- Both codes of a token name rows of their tables, where the precondition holds. -/
theorem rows (h : fn (F := Ideal) x w₁ w₂ W b T₁ T₂ = fun _ => 1#1) (i : S4096x200.Idx) :
    (∃ p : Fin 8, w₁ i = BitVec.ofNat 32 p) ∧ ∃ q : Fin 4, w₂ i = BitVec.ofNat 32 q := by
  have hi := congrFun h i
  obtain ⟨h3, h4⟩ := both_one _ _ hi
  obtain ⟨h2, h3⟩ := both_one _ _ h3
  obtain ⟨h1, h2⟩ := both_one _ _ h2
  exact ⟨number_of_range 8 (by decide) _ h1 h2, number_of_range 4 (by decide) _ h3 h4⟩

end Cert.Pre_codes_name_rows.Codes

end
-- ==== Proof.Agree.lean ====
/-
  The kernel's result and the reference's are one function of the arguments, where every code names a row.
-/
module

public import proofs.«01_k».proof.Proof.KernelRun
public import proofs.«01_k».proof.Proof.Reference
public import proofs.«01_k».proof.Proof.Codes

@[expose] public section

set_option maxRecDepth 16384

noncomputable section

open Idealize.ShloMosaic Idealize.SL.Sem

namespace Cert.Agree

open Cert.KernelIdeal

/-- The kernel's result is the reference's function of the kernel's arguments: at each index both are the linear layer
    or the table row that the token's code names. -/
theorem result_eq (m : (ℓ : Loc nD τ sig) → Buf (Elt Ideal) ℓ) (c : Dev nD)
    (h : ∀ i, (∃ p : Fin 8, m ((c.tc : Thread nD τ).loc main_arg1) i = BitVec.ofNat 32 p)
      ∧ ∃ q : Fin 4, m ((c.tc : Thread nD τ).loc main_arg2) i = BitVec.ofNat 32 q) :
    Result.result m c = Cert.ReferenceIdeal.Read.val_main_v6 (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6)) := by
  funext i
  have hi : i = ix3 (i 0) (i 1) (i 2) := by
    funext a
    match a with
    | ⟨0, _⟩ => rfl
    | ⟨1, _⟩ => rfl
    | ⟨2, _⟩ => rfl
  rw [hi]
  obtain ⟨⟨p, hp⟩, q, hq⟩ := h (ix2 (i 0) (i 1))
  refine (Result.result_apply m c (i 0) (i 1) (i 2)).trans (Eq.trans ?_
    (Cert.ReferenceIdeal.Entry.result_apply _ _ _ _ _ _ _ (fun i => (h i).1) (fun i => (h i).2)
      (i 0) (i 1) (i 2) p q hp hq).symm)
  rw [hp, hq]
  exact Embed.entry_pack _ p q _ _ _ _ _

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_codes_name_rows
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments unchanged and every semaphore at zero. -/
theorem reference_frame : quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩)
    (Cert.ReferenceIdeal.Value.run (F := Ideal) m g)

/-- On arguments whose codes name rows, the kernel and the reference end with the same result. -/
theorem algebraic : algebraic_KernelIdeal_ReferenceIdeal_pre_codes_name_rows
    (hKernelIdeal := Cert.KernelIdeal.Gen.facts) (hReferenceIdeal := Cert.ReferenceIdeal.Gen.facts)
    (hPre_codes_name_rows := Cert.Pre_codes_name_rows.Gen.facts) := by
  intro m g m' g' hpre hagree
  refine ⟨fun c => Cert.KernelIdeal.Result.result m c, Cert.KernelIdeal.Result.run m g,
    (θ_run Cert.ReferenceIdeal.defs _ _).mono (fun _ h c => ⟨(h c).1.trans ?_, (h c).2⟩)
      (Cert.ReferenceIdeal.Value.run (F := Ideal) m' g')⟩
  obtain ⟨h0, h1, h2, h3, h4, h5, h6⟩ := hagree c
  refine (Cert.ReferenceIdeal.Read.val_main_v6_eq m' c).trans (Eq.trans ?_
    (Cert.Agree.result_eq m c fun i => Cert.Pre_codes_name_rows.Codes.rows _ _ _ _ _ _ _ (hpre c) i).symm)
  rw [h0, h1, h2, h3, h4, h5, h6]

/-- Every claim of the certificate. -/
theorem claim : Cert.Claim :=
  ⟨Cert.Kernel.Gen.facts, Cert.KernelIdeal.Gen.facts, Cert.ReferenceIdeal.Gen.facts, Cert.Pre_codes_name_rows.Gen.facts,
    fun m g _ => Cert.Kernel.Gen.frame m g, fun m g _ => Cert.KernelIdeal.Gen.frame m g,
    fun m g _ => Cert.KernelIdeal.Gen.frame m g, reference_frame, fun m g _ => reference_frame m g True.intro,
    trivial, algebraic⟩

end Cert.Proof

end
